-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S131072 : Shape := ⟨1, ![131072]⟩
abbrev S32768 : Shape := ⟨1, ![32768]⟩
abbrev S65536 : Shape := ⟨1, ![65536]⟩
abbrev S4096 : Shape := ⟨1, ![4096]⟩
abbrev S_ : Shape := ⟨0, ![]⟩
abbrev S32x1024 : Shape := ⟨2, ![32, 1024]⟩
abbrev S128x512 : Shape := ⟨2, ![128, 512]⟩
abbrev S1x32768 : Shape := ⟨2, ![1, 32768]⟩

abbrev nBuf : Table → Nat
  | .hbm => 7
  | .local .scVector .vmem => 1
  | _ => 0

abbrev bufTy : (tb : Table) → Fin (nBuf tb) → BufTy
  | .hbm, ⟨0, _⟩ => ⟨S131072, .f32⟩
  | .hbm, ⟨1, _⟩ => ⟨S32768, .f32⟩
  | .hbm, ⟨2, _⟩ => ⟨S65536, .f32⟩
  | .hbm, ⟨3, _⟩ => ⟨S32768, .f32⟩
  | .hbm, ⟨4, _⟩ => ⟨S32x1024, .f32⟩
  | .hbm, ⟨5, _⟩ => ⟨S128x512, .f32⟩
  | .hbm, ⟨6, _⟩ => ⟨S1x32768, .f32⟩
  | .local .scVector .vmem, ⟨0, _⟩ => ⟨S4096, .f32⟩
  | _, _ => ⟨S131072, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg0_scv : Ref sig .scVector := ⟨.hbm, 0, rfl⟩
abbrev main_v0_0_scv : Ref sig .scVector := ⟨.hbm, 1, rfl⟩
abbrev main_v0_1_scv : Ref sig .scVector := ⟨.hbm, 2, rfl⟩
abbrev main_v0_2_scv : Ref sig .scVector := ⟨.hbm, 3, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  ![v2.toNat]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v3 : BitVec 1 := Scalar.cmpi .slt v1 c8_i32
  let v4 : BitVec 32 := Scalar.extui v3
  let c0_i32 : BitVec 32 := 0#32
  let v5 : BitVec 1 := Scalar.cmpi .ne v4 c0_i32
  v5

def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  ![v2.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_0 : BitVec 32 := 8#32
  let v6 : BitVec 1 := Scalar.cmpi .sge v1 c8_i32_0
  let c24_i32 : BitVec 32 := 24#32
  let v7 : BitVec 1 := Scalar.cmpi .slt v1 c24_i32
  let v8 : BitVec 1 := Scalar.andi v6 v7
  let v9 : BitVec 32 := Scalar.extui v8
  let c0_i32_1 : BitVec 32 := 0#32
  let v10 : BitVec 1 := Scalar.cmpi .ne v9 c0_i32_1
  v10

def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c32768_i32 : BitVec 32 := 32768#32
  let v14 : BitVec 32 := Scalar.subi v2 c32768_i32
  ![v14.toNat]
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_2 : BitVec 32 := 24#32
  let v11 : BitVec 1 := Scalar.cmpi .sge v1 c24_i32_2
  let v12 : BitVec 32 := Scalar.extui v11
  let c0_i32_3 : BitVec 32 := 0#32
  let v13 : BitVec 1 := Scalar.cmpi .ne v12 c0_i32_3
  v13

def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c32768_i32 : BitVec 32 := 32768#32
  let v14 : BitVec 32 := Scalar.subi v2 c32768_i32
  let c65536_i32 : BitVec 32 := 65536#32
  let v15 : BitVec 32 := Scalar.subi v14 c65536_i32
  ![v15.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S131072 : Shape := ⟨1, ![131072]⟩
abbrev S32768 : Shape := ⟨1, ![32768]⟩
abbrev S65536 : Shape := ⟨1, ![65536]⟩
abbrev S_ : Shape := ⟨0, ![]⟩
abbrev S32x1024 : Shape := ⟨2, ![32, 1024]⟩
abbrev S32768x1 : Shape := ⟨2, ![32768, 1]⟩
abbrev S32768x2 : Shape := ⟨2, ![32768, 2]⟩
abbrev S128x512 : Shape := ⟨2, ![128, 512]⟩
abbrev S65536x1 : Shape := ⟨2, ![65536, 1]⟩
abbrev S65536x2 : Shape := ⟨2, ![65536, 2]⟩
abbrev S1x32768 : Shape := ⟨2, ![1, 32768]⟩

abbrev nBuf : Space → Nat
  | .hbm => 88
  | .vmem => 0
  | .smem => 0
  | _ => 0

abbrev bufTy : (tb : Table) → Fin (tcTables nBuf tb) → BufTy
  | .hbm, ⟨0, _⟩ => ⟨S131072, .f32⟩
  | .hbm, ⟨1, _⟩ => ⟨S32768, .f32⟩
  | .hbm, ⟨2, _⟩ => ⟨S65536, .f32⟩
  | .hbm, ⟨3, _⟩ => ⟨S32768, .f32⟩
  | .hbm, ⟨4, _⟩ => ⟨S_, .f32⟩
  | .hbm, ⟨5, _⟩ => ⟨S32x1024, .f32⟩
  | .hbm, ⟨6, _⟩ => ⟨S32768, .i32⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S32768, .i32⟩
  | .hbm, ⟨14, _⟩ => ⟨S_, .i32⟩
  | .hbm, ⟨15, _⟩ => ⟨S32768, .i32⟩
  | .hbm, ⟨16, _⟩ => ⟨S32768, .i1⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S_, .i32⟩
  | .hbm, ⟨22, _⟩ => ⟨S32768, .i32⟩
  | .hbm, ⟨23, _⟩ => ⟨S32768, .i1⟩
  | .hbm, ⟨24, _⟩ => ⟨S_, .i32⟩
  | .hbm, ⟨25, _⟩ => ⟨S32768, .i32⟩
  | .hbm, ⟨26, _⟩ => ⟨S32768, .i32⟩
  | .hbm, ⟨27, _⟩ => ⟨S32768, .i32⟩
  | .hbm, ⟨28, _⟩ => ⟨S32768x1, .i32⟩
  | .hbm, ⟨29, _⟩ => ⟨S32768x1, .i32⟩
  | .hbm, ⟨30, _⟩ => ⟨S32768x2, .i32⟩
  | .hbm, ⟨31, _⟩ => ⟨S32x1024, .f32⟩
  | .hbm, ⟨32, _⟩ => ⟨S_, .f32⟩
  | .hbm, ⟨33, _⟩ => ⟨S128x512, .f32⟩
  | .hbm, ⟨34, _⟩ => ⟨S65536, .i32⟩
  | .hbm, ⟨35, _⟩ => ⟨S_, .i32⟩
  | .hbm, ⟨36, _⟩ => ⟨S65536, .i32⟩
  | .hbm, ⟨37, _⟩ => ⟨S65536, .i32⟩
  | .hbm, ⟨38, _⟩ => ⟨S_, .i32⟩
  | .hbm, ⟨39, _⟩ => ⟨S65536, .i32⟩
  | .hbm, ⟨40, _⟩ => ⟨S65536, .i32⟩
  | .hbm, ⟨41, _⟩ => ⟨S65536, .i32⟩
  | .hbm, ⟨42, _⟩ => ⟨S_, .i32⟩
  | .hbm, ⟨43, _⟩ => ⟨S65536, .i32⟩
  | .hbm, ⟨44, _⟩ => ⟨S65536, .i1⟩
  | .hbm, ⟨45, _⟩ => ⟨S_, .i32⟩
  | .hbm, ⟨46, _⟩ => ⟨S65536, .i32⟩
  | .hbm, ⟨47, _⟩ => ⟨S65536, .i32⟩
  | .hbm, ⟨48, _⟩ => ⟨S65536, .i32⟩
  | .hbm, ⟨49, _⟩ => ⟨S_, .i32⟩
  | .hbm, ⟨50, _⟩ => ⟨S65536, .i32⟩
  | .hbm, ⟨51, _⟩ => ⟨S65536, .i1⟩
  | .hbm, ⟨52, _⟩ => ⟨S_, .i32⟩
  | .hbm, ⟨53, _⟩ => ⟨S65536, .i32⟩
  | .hbm, ⟨54, _⟩ => ⟨S65536, .i32⟩
  | .hbm, ⟨55, _⟩ => ⟨S65536, .i32⟩
  | .hbm, ⟨56, _⟩ => ⟨S65536x1, .i32⟩
  | .hbm, ⟨57, _⟩ => ⟨S65536x1, .i32⟩
  | .hbm, ⟨58, _⟩ => ⟨S65536x2, .i32⟩
  | .hbm, ⟨59, _⟩ => ⟨S128x512, .f32⟩
  | .hbm, ⟨60, _⟩ => ⟨S_, .f32⟩
  | .hbm, ⟨61, _⟩ => ⟨S1x32768, .f32⟩
  | .hbm, ⟨62, _⟩ => ⟨S32768, .i32⟩
  | .hbm, ⟨63, _⟩ => ⟨S_, .i32⟩
  | .hbm, ⟨64, _⟩ => ⟨S32768, .i32⟩
  | .hbm, ⟨65, _⟩ => ⟨S32768, .i32⟩
  | .hbm, ⟨66, _⟩ => ⟨S_, .i32⟩
  | .hbm, ⟨67, _⟩ => ⟨S32768, .i32⟩
  | .hbm, ⟨68, _⟩ => ⟨S32768, .i32⟩
  | .hbm, ⟨69, _⟩ => ⟨S32768, .i32⟩
  | .hbm, ⟨70, _⟩ => ⟨S_, .i32⟩
  | .hbm, ⟨71, _⟩ => ⟨S32768, .i32⟩
  | .hbm, ⟨72, _⟩ => ⟨S32768, .i1⟩
  | .hbm, ⟨73, _⟩ => ⟨S_, .i32⟩
  | .hbm, ⟨74, _⟩ => ⟨S32768, .i32⟩
  | .hbm, ⟨75, _⟩ => ⟨S32768, .i32⟩
  | .hbm, ⟨76, _⟩ => ⟨S32768, .i32⟩
  | .hbm, ⟨77, _⟩ => ⟨S_, .i32⟩
  | .hbm, ⟨78, _⟩ => ⟨S32768, .i32⟩
  | .hbm, ⟨79, _⟩ => ⟨S32768, .i1⟩
  | .hbm, ⟨80, _⟩ => ⟨S_, .i32⟩
  | .hbm, ⟨81, _⟩ => ⟨S32768, .i32⟩
  | .hbm, ⟨82, _⟩ => ⟨S32768, .i32⟩
  | .hbm, ⟨83, _⟩ => ⟨S32768, .i32⟩
  | .hbm, ⟨84, _⟩ => ⟨S32768x1, .i32⟩
  | .hbm, ⟨85, _⟩ => ⟨S32768x1, .i32⟩
  | .hbm, ⟨86, _⟩ => ⟨S32768x2, .i32⟩
  | .hbm, ⟨87, _⟩ => ⟨S1x32768, .f32⟩
  | _, _ => ⟨S131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_c_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_8 : Ref sig .tc := ⟨.hbm, 42, rfl⟩
abbrev main_v31 : Ref sig .tc := ⟨.hbm, 43, rfl⟩
abbrev main_v32 : Ref sig .tc := ⟨.hbm, 44, rfl⟩
abbrev main_c_9 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_10 : Ref sig .tc := ⟨.hbm, 49, rfl⟩
abbrev main_v36 : Ref sig .tc := ⟨.hbm, 50, rfl⟩
abbrev main_v37 : Ref sig .tc := ⟨.hbm, 51, rfl⟩
abbrev main_c_11 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_12 : Ref sig .tc := ⟨.hbm, 60, rfl⟩
abbrev main_v45 : Ref sig .tc := ⟨.hbm, 61, rfl⟩
abbrev main_v46 : Ref sig .tc := ⟨.hbm, 62, rfl⟩
abbrev main_c_13 : Ref sig .tc := ⟨.hbm, 63, rfl⟩
abbrev main_v47 : Ref sig .tc := ⟨.hbm, 64, rfl⟩
abbrev main_v48 : Ref sig .tc := ⟨.hbm, 65, rfl⟩
abbrev main_c_14 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_15 : Ref sig .tc := ⟨.hbm, 70, rfl⟩
abbrev main_v52 : Ref sig .tc := ⟨.hbm, 71, rfl⟩
abbrev main_v53 : Ref sig .tc := ⟨.hbm, 72, rfl⟩
abbrev main_c_16 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_17 : Ref sig .tc := ⟨.hbm, 77, rfl⟩
abbrev main_v57 : Ref sig .tc := ⟨.hbm, 78, rfl⟩
abbrev main_v58 : Ref sig .tc := ⟨.hbm, 79, rfl⟩
abbrev main_c_18 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Proof.SplitIdeal.lean ====
/-
  The idealized kernel's run: Proof/Split.lean over the idealized program, with nothing changed but the program's name.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Writes
public import Idealize.ShloMosaic.Lib.ViewIndex
public import Idealize.ShloMosaic.Lib.Ring
public import proofs.«01_k».proof.Proof.Split
public import proofs.«01_k».proof.Proof.Gen.KernelIdeal
public import proofs.«01_k».proof.Proof.Gen.KernelIdeal.Skeleton

@[expose] public section

noncomputable section

namespace Cert.Proof.SplitIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

/-- The handshakes' rounds library is the left factor; the transfers' counters are the right. -/
abbrev EH : Emb UH (MT nD τ sig (HIx 1) (Elt F) ℕ UU ℕ) := embL

/-! ## The arrays and what they end at -/

variable (m : (ℓ : Loc nD τ sig) → Buf (Elt F) ℓ) (ρ : Dev nD → PrngReg)

/-- The input and the three flat outputs as a tile names them, and its own buffer. -/
abbrev xV : Memref sig .scVector .hbm S131072 .f32 := Memref.whole main_arg0_scv
abbrev aV : Memref sig .scVector .hbm S32768 .f32 := Memref.whole main_v0_0_scv
abbrev bV : Memref sig .scVector .hbm S65536 .f32 := Memref.whole main_v0_1_scv
abbrev cV : Memref sig .scVector .hbm S32768 .f32 := Memref.whole main_v0_2_scv
abbrev wV : Memref sig .scVector .vmem S4096 .f32 := Memref.whole cc0_scratch0

/-- The input; the three flat arrays the SparseCore fills. -/
abbrev xLoc (d : Dev nD) : Loc nD τ sig := (SparseCore.T d).loc main_arg0
abbrev aLoc (d : Dev nD) : Loc nD τ sig := (SparseCore.T d).loc main_v0_0
abbrev bLoc (d : Dev nD) : Loc nD τ sig := (SparseCore.T d).loc main_v0_1
abbrev cLoc (d : Dev nD) : Loc nD τ sig := (SparseCore.T d).loc main_v0_2

variable [FloatOps F]

theorem cut_a : S131072.Slices ![0] S32768 := by decide
theorem cut_b : S131072.Slices ![32768] S65536 := by decide
theorem cut_c : S131072.Slices ![98304] S32768 := by decide

/-- The three consecutive parts of the input: what the three flat arrays end at. -/
abbrev partA (d : Dev nD) : Buf (Elt F) (aLoc d) := (extractStridedSlice S32768 ![0] (m (xLoc d) : FVec F S131072 .f32) cut_a : FVec F S32768 .f32)
abbrev partB (d : Dev nD) : Buf (Elt F) (bLoc d) := (extractStridedSlice S65536 ![32768] (m (xLoc d) : FVec F S131072 .f32) cut_b : FVec F S65536 .f32)
abbrev partC (d : Dev nD) : Buf (Elt F) (cLoc d) := (extractStridedSlice S32768 ![98304] (m (xLoc d) : FVec F S131072 .f32) cut_c : FVec F S32768 .f32)

abbrev xPts (d : Dev nD) : sProp 𝕄 := xLoc d ↦{fullShare} m (xLoc d)
abbrev aPts (d : Dev nD) (f : Buf (Elt F) (aLoc d)) : sProp 𝕄 := aLoc d ↦{fullShare} f
abbrev bPts (d : Dev nD) (f : Buf (Elt F) (bLoc d)) : sProp 𝕄 := bLoc d ↦{fullShare} f
abbrev cPts (d : Dev nD) (f : Buf (Elt F) (cLoc d)) : sProp 𝕄 := cLoc d ↦{fullShare} f

/-! ## The tiles' shares -/

/-- Of an array of `N` elements whose first tile is `o`, the elements that tile `w` copies: the `w - o`-th run of 4096. -/
def piece (N o w : ℕ) : Finset (Shape.Idx ⟨1, ![N]⟩) := Finset.univ.filter fun k => (k 0).val / 4096 + o = w

omit [FloatOps F] in
theorem mem_piece {N o w : ℕ} {k : Shape.Idx ⟨1, ![N]⟩} : k ∈ piece N o w ↔ (k 0).val / 4096 + o = w := by simp [piece]

omit [FloatOps F] in
/-- A tile before the array's first copies none of it, -/
theorem piece_empty_lt {N o w : ℕ} (h : w < o) : piece N o w = ∅ :=
  Finset.eq_empty_of_forall_notMem fun k hk => by have := mem_piece.mp hk; omega

omit [FloatOps F] in
/-- nor does one after its last; -/
theorem piece_empty_ge {n o w : ℕ} (h : o + n ≤ w) : piece (4096 * n) o w = ∅ :=
  Finset.eq_empty_of_forall_notMem fun k hk => by
    have h1 := mem_piece.mp hk
    have h2 : (k 0).val < 4096 * n := (k 0).isLt
    omega

omit [FloatOps F] in
/-- of the others, each copies the run that begins at 4096 times its number among them. -/
theorem piece_eq {N o w : ℕ} (off : Fin 1 → ℕ) (ho : off 0 + 4096 * o = 4096 * w) (inb : ∀ a, off a + S4096.size a ≤ (⟨1, ![N]⟩ : Shape).size a) :
    (Rect.unit (s := ⟨1, ![N]⟩) off S4096.size inb).set = piece N o w := by
  ext k
  rw [Rect.mem_set_unit, mem_piece]
  constructor
  · intro h
    have h0 : off 0 ≤ (k 0).val ∧ (k 0).val < off 0 + 4096 := h 0
    omega
  · intro h a
    obtain rfl : a = 0 := Subsingleton.elim a 0
    show off 0 ≤ (k 0).val ∧ (k 0).val < off 0 + 4096
    omega

/-- The number of the tile at place `p.2` of SparseCore `p.1`. -/
abbrev num (p : Fin 2 × Fin 16) : ℕ := 2 * p.2.val + p.1.val

omit [FloatOps F] in
theorem num_injective : Function.Injective num := by decide

omit [FloatOps F] in
/-- Two tiles copy different elements, -/
theorem piece_disjoint (N o : ℕ) (p q : Fin 2 × Fin 16) (h : p ≠ q) : Disjoint (piece N o (num p)) (piece N o (num q)) :=
  Finset.disjoint_left.mpr fun _ hp hq => h (num_injective ((mem_piece.mp hp).symm.trans (mem_piece.mp hq)))

omit [FloatOps F] in
/-- and together the tiles copy all of them. -/
theorem piece_cover {n o : ℕ} (h : o + n ≤ 32) : (Finset.univ.biUnion fun p : Fin 2 × Fin 16 => piece (4096 * n) o (num p)) = Finset.univ := by
  ext k
  simp only [Finset.mem_biUnion, Finset.mem_univ, true_and, iff_true]
  have hk : (k 0).val < 4096 * n := (k 0).isLt
  refine ⟨(⟨((k 0).val / 4096 + o) % 2, by omega⟩, ⟨((k 0).val / 4096 + o) / 2, by omega⟩), mem_piece.mpr ?_⟩
  show (k 0).val / 4096 + o = 2 * (((k 0).val / 4096 + o) / 2) + ((k 0).val / 4096 + o) % 2
  omega

/-- An array held whole is held by the tiles of both SparseCores, each its piece. -/
theorem whole_pieces (ℓ : Loc nD τ sig) (I : ℕ → Finset (Idx ℓ)) (hd : ∀ p q : Fin 2 × Fin 16, p ≠ q → Disjoint (I (num p)) (I (num q)))
    (hc : (Finset.univ.biUnion fun p : Fin 2 × Fin 16 => I (num p)) = Finset.univ) (f : Buf (Elt F) ℓ) :
    (ℓ ↦{fullShare} f : sProp 𝕄)
      = bigSep Finset.univ fun c : Fin 2 => bigSep Finset.univ fun i : Fin 16 => ℓ ↦[I (2 * i.val + c.val)]{fullShare} f := by
  refine (Ring.pointsTo_blocks (ℓ := ℓ) (fun p : Fin 2 × Fin 16 => I (num p)) hd hc f).trans ?_
  rw [← Finset.univ_product_univ, SparseCore.bigSep_product]

/-- What tile `w` holds: its piece of the input, and its pieces of the outputs at the contents given. -/
abbrev share (d : Dev nD) (w : ℕ) (fa : Buf (Elt F) (aLoc d)) (fb : Buf (Elt F) (bLoc d)) (fc : Buf (Elt F) (cLoc d)) : sProp 𝕄 :=
  iprop((xLoc d ↦[piece 131072 0 w]{fullShare} m (xLoc d)) ∗ (aLoc d ↦[piece 32768 0 w]{fullShare} fa)
    ∗ (bLoc d ↦[piece 65536 8 w]{fullShare} fb) ∗ cLoc d ↦[piece 32768 24 w]{fullShare} fc)

/-- The four arrays whole are all the tiles' shares. -/
theorem tiles_eq (d : Dev nD) (fa : Buf (Elt F) (aLoc d)) (fb : Buf (Elt F) (bLoc d)) (fc : Buf (Elt F) (cLoc d)) :
    (iprop(xPts m d ∗ aPts d fa ∗ bPts d fb ∗ cPts d fc) : sProp 𝕄)
      = bigSep Finset.univ fun c : Fin 2 => bigSep Finset.univ fun i : Fin 16 => share m d (2 * i.val + c.val) fa fb fc := by
  unfold xPts aPts bPts cPts
  rw [whole_pieces (xLoc d) (piece 131072 0) (piece_disjoint _ _) (piece_cover (n := 32) (by decide)),
    whole_pieces (aLoc d) (piece 32768 0) (piece_disjoint _ _) (piece_cover (n := 8) (by decide)),
    whole_pieces (bLoc d) (piece 65536 8) (piece_disjoint _ _) (piece_cover (n := 16) (by decide)),
    whole_pieces (cLoc d) (piece 32768 24) (piece_disjoint _ _) (piece_cover (n := 8) (by decide))]
  simp only [bigSep_sep']

/-- A tile's share as the call hands it out, and as the tile brings it back: the outputs as they were, and at their parts of the input. -/
abbrev shareIn (d : Dev nD) (w : ℕ) : sProp 𝕄 := share m d w (m (aLoc d)) (m (bLoc d)) (m (cLoc d))
abbrev shareOut (d : Dev nD) (w : ℕ) : sProp 𝕄 := share m d w (partA m d) (partB m d) (partC m d)

/-- What the call's handshakes carry: to a SparseCore its tiles' shares, to a tile its own. -/
def P : (K (F := F)).Pay (nD := nD) (Val := Elt F) (Name := ℕ) (U := UU) where
  st := fun q d c => bigSep Finset.univ fun i : Fin ((K (F := F)).nSub q) => shareIn m d (2 * i.val + c.val)
  dn := fun q d c => bigSep Finset.univ fun i : Fin ((K (F := F)).nSub q) => shareOut m d (2 * i.val + c.val)
  go := fun _ d c i => shareIn m d (2 * i.val + c.val)
  td := fun _ d c i => shareOut m d (2 * i.val + c.val)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The kernel's body on one tile -/

section Body

variable (d : Dev nD) (L : grid0.Coords)

/-- The tile at a grid point, its number, and its four transfer cells. -/
abbrev thr : Thread nD τ := V d ((L 0).castLE hcore0) ((L 1).castLE hsub0)
abbrev wid : ℕ := 2 * (L 1).val + (L 0).val
abbrev cellX : GSem nD τ sig := (thr d L, .dma cc0_scoped0.sem)
abbrev cellA : GSem nD τ sig := (thr d L, .dma cc0_scoped1.sem)
abbrev cellB : GSem nD τ sig := (thr d L, .dma cc0_scoped2.sem)
abbrev cellC : GSem nD τ sig := (thr d L, .dma cc0_scoped3.sem)

/-! ### Which tiles do what, and where -/

omit [FloatOps F] in
theorem cond_A : ∀ L : grid0.Coords, k0_cond1 L = 1#1 ↔ wid L < 8 := by decide +kernel
omit [FloatOps F] in
theorem cond_B : ∀ L : grid0.Coords, k0_cond2 L = 1#1 ↔ 8 ≤ wid L ∧ wid L < 24 := by decide +kernel
omit [FloatOps F] in
theorem cond_C : ∀ L : grid0.Coords, k0_cond3 L = 1#1 ↔ 24 ≤ wid L := by decide +kernel
omit [FloatOps F] in
theorem wid_lt : ∀ L : grid0.Coords, wid L < 32 := by decide +kernel
omit [FloatOps F] in
theorem off_X : ∀ L : grid0.Coords, k0_off1 L 0 = 4096 * wid L := by decide +kernel
omit [FloatOps F] in
theorem off_A : ∀ L : grid0.Coords, k0_off2 L 0 = 4096 * wid L := by decide +kernel
omit [FloatOps F] in
theorem off_B : ∀ L : grid0.Coords, k0_cond2 L = 1#1 → k0_off3 L 0 + 32768 = 4096 * wid L := by decide +kernel
omit [FloatOps F] in
theorem off_C : ∀ L : grid0.Coords, k0_cond3 L = 1#1 → k0_off4 L 0 + 98304 = 4096 * wid L := by decide +kernel

/-- The tile's window of the input, and of the output it fills. -/
abbrev xK : Memref sig .scVector .hbm S4096 .f32 := xV.slice (Rect.unit (s := S131072) (k0_off1 L) S4096.size (k0_off1_inb L)) (fun _ => rfl)
abbrev aK (h : k0_cond1 L = 1#1) : Memref sig .scVector .hbm S4096 .f32 :=
  aV.slice (Rect.unit (s := S32768) (k0_off2 L) S4096.size (k0_off2_inb L h)) (fun _ => rfl)
abbrev bK (h : k0_cond2 L = 1#1) : Memref sig .scVector .hbm S4096 .f32 :=
  bV.slice (Rect.unit (s := S65536) (k0_off3 L) S4096.size (k0_off3_inb L h)) (fun _ => rfl)
abbrev cK (h : k0_cond3 L = 1#1) : Memref sig .scVector .hbm S4096 .f32 :=
  cV.slice (Rect.unit (s := S32768) (k0_off4 L) S4096.size (k0_off4_inb L h)) (fun _ => rfl)

/-- Each window is the tile's piece. -/
theorem pts_xK (f : Buf (Elt F) (xLoc d)) :
    (xLoc d ↦[piece 131072 0 (wid L)]{fullShare} f : sProp 𝕄) = ((xK L).view.loc (thr d L) ↦[(xK L).view.set]{fullShare} f) := by
  rw [← piece_eq (N := 131072) (k0_off1 L) (by rw [off_X]; rfl) (k0_off1_inb L)]
  simp only [Memref.view_slice, Memref.view_whole, View.set_slice_whole]
theorem pts_aK (h : k0_cond1 L = 1#1) (f : Buf (Elt F) (aLoc d)) :
    (aLoc d ↦[piece 32768 0 (wid L)]{fullShare} f : sProp 𝕄) = ((aK L h).view.loc (thr d L) ↦[(aK L h).view.set]{fullShare} f) := by
  rw [← piece_eq (N := 32768) (k0_off2 L) (by rw [off_A]; rfl) (k0_off2_inb L h)]
  simp only [Memref.view_slice, Memref.view_whole, View.set_slice_whole]
theorem pts_bK (h : k0_cond2 L = 1#1) (f : Buf (Elt F) (bLoc d)) :
    (bLoc d ↦[piece 65536 8 (wid L)]{fullShare} f : sProp 𝕄) = ((bK L h).view.loc (thr d L) ↦[(bK L h).view.set]{fullShare} f) := by
  rw [← piece_eq (N := 65536) (k0_off3 L) (off_B L h) (k0_off3_inb L h)]
  simp only [Memref.view_slice, Memref.view_whole, View.set_slice_whole]
theorem pts_cK (h : k0_cond3 L = 1#1) (f : Buf (Elt F) (cLoc d)) :
    (cLoc d ↦[piece 32768 24 (wid L)]{fullShare} f : sProp 𝕄) = ((cK L h).view.loc (thr d L) ↦[(cK L h).view.set]{fullShare} f) := by
  rw [← piece_eq (N := 32768) (k0_off4 L) (off_C L h) (k0_off4_inb L h)]
  simp only [Memref.view_slice, Memref.view_whole, View.set_slice_whole]

/-- An output that the tile does not fill: its piece holds no element, so it is at any contents. -/
theorem idle {ℓ : Loc nD τ sig} {I : Finset (Idx ℓ)} (h : I = ∅) (f g : Buf (Elt F) ℓ) : (ℓ ↦[I]{fullShare} f : sProp 𝕄) = ℓ ↦[I]{fullShare} g :=
  pointsTo_congr fun i hi => absurd (h ▸ hi) (Finset.notMem_empty i)

/-! ### What the two copies leave -/

omit [FloatOps F] in
/-- A window filled from a buffer that was itself filled by `y` agrees, on the window's own elements, with any
    contents `G` that read through the window like `y`. -/
theorem landed {κ κ' : Kind} {sp sp' : Space} {s : Shape} {e : EltTy} {Val : EltTy → Type} (v : View sig κ sp s e) (u : View sig κ' sp' s e)
    (f G : v.ty.Contents Val) (g : u.ty.Contents Val) (y : s.Idx → Val e) (hy : ∀ x, y x = v.read Val G x) :
    ∀ i ∈ v.set, v.writes Val f [⟨Rect.whole s, u.read Val (u.write Val g y Finset.univ)⟩] i = G i := by
  intro i hi
  obtain ⟨x, -, rfl⟩ := Finset.mem_map.mp hi
  apply View.eq_of_read_eq
  have hx := View.read_writes_cons_emb v f (Rect.whole s) (u.read Val (u.write Val g y Finset.univ)) [] x
  rw [Rect.emb_whole_apply] at hx
  rw [hx, View.read_write_univ, hy]

/-- The tile's piece of the input, as the copy from it reads it. -/
abbrev chunk : S4096.Idx → Elt F .f32 := (xK L).view.read (Elt F) (m (xLoc d))

/-- It is what the tile's window shows of the part of the input that the output ends at: of the first, -/
theorem chunk_A (h : k0_cond1 L = 1#1) (x : S4096.Idx) : chunk m d L x = (aK L h).view.read (Elt F) (partA m d) x :=
  congrArg (m (xLoc d)) (funext fun a => Fin.ext (by
    fin_cases a
    show k0_off1 L 0 + 1 * (x 0).val = 0 + (k0_off2 L 0 + 1 * (x 0).val)
    rw [off_X, off_A]; omega))
/-- of the second, -/
theorem chunk_B (h : k0_cond2 L = 1#1) (x : S4096.Idx) : chunk m d L x = (bK L h).view.read (Elt F) (partB m d) x :=
  congrArg (m (xLoc d)) (funext fun a => Fin.ext (by
    fin_cases a
    show k0_off1 L 0 + 1 * (x 0).val = 32768 + (k0_off3 L 0 + 1 * (x 0).val)
    rw [off_X, ← off_B L h]; omega))
/-- of the third. -/
theorem chunk_C (h : k0_cond3 L = 1#1) (x : S4096.Idx) : chunk m d L x = (cK L h).view.read (Elt F) (partC m d) x :=
  congrArg (m (xLoc d)) (funext fun a => Fin.ext (by
    fin_cases a
    show k0_off1 L 0 + 1 * (x 0).val = 98304 + (k0_off4 L 0 + 1 * (x 0).val)
    rw [off_X, ← off_C L h]; omega))

/-! ### The body run, on a tile of each kind -/

/-- The body with its operands. -/
abbrev prog : Prog (TpuEff nD τ sig (Elt F) Λ₀ (.scVector ((L 0).castLE hcore0) ((L 1).castLE hsub0))) PUnit :=
  cc0__body L xV (Memref.isWhole_whole _) aV (Memref.isWhole_whole _) bV (Memref.isWhole_whole _) cV (Memref.isWhole_whole _)
    wV (Memref.isWhole_whole _) cc0_scoped0 cc0_scoped1 cc0_scoped2 cc0_scoped3

/-- What a tile starts its body with: its windows of the input and of the output it fills, its buffer, two cells at zero, what it owes; -/
abbrev pre (o : Memref sig .scVector .hbm S4096 .f32) (cell : GSem nD τ sig) (f : Buf (Elt F) (o.view.loc (thr d L)))
    (O : CellTallies nD τ sig (HIx 1)) (W : Waits sig (HIx 1)) : sProp 𝕄 :=
  iprop(((xK L).view.loc (thr d L) ↦[(xK L).view.set]{fullShare} m (xLoc d)) ∗ (o.view.loc (thr d L) ↦[o.view.set]{fullShare} f)
    ∗ (∃ g, wV.view.loc (thr d L) ↦{fullShare} g) ∗ semVal (cellX d L) 0 ∗ semVal cell 0 ∗ owes (thr d L) O W)
/-- and what it ends with, the output's window at `f`. -/
abbrev post (o : Memref sig .scVector .hbm S4096 .f32) (cell : GSem nD τ sig) (f : Buf (Elt F) (o.view.loc (thr d L)))
    (O : CellTallies nD τ sig (HIx 1)) : sProp 𝕄 :=
  iprop(((xK L).view.loc (thr d L) ↦[(xK L).view.set]{fullShare} m (xLoc d)) ∗ (o.view.loc (thr d L) ↦[o.view.set]{fullShare} f)
    ∗ (∃ g, wV.view.loc (thr d L) ↦{fullShare} g) ∗ semVal (cellX d L) 0 ∗ semVal cell 0 ∗ ∃ W', owes (thr d L) O W')

/-- A tile that fills the first output: its window ends at its place of the first part of the input; -/
theorem run_A (h1 : k0_cond1 L = 1#1) (h2 : ¬ k0_cond2 L = 1#1) (h3 : ¬ k0_cond3 L = 1#1) (O : CellTallies nD τ sig (HIx 1)) (W : Waits sig (HIx 1))
    (f : Buf (Elt F) (aLoc d)) :
    (iprop(Transfers.MayWaits (thr d L) (none : HIx 1) O ∗ pre m d L (aK L h1) (cellA d L) f O W) : sProp 𝕄)
      ⊢ wp frame (wpE (defs₀ (F := F)) 𝒱₀ (thr d L) none) Set.univ (prog (F := F) L) fun _ => post m d L (aK L h1) (cellA d L) (partA m d) O := by
  iintro ⟨#Hmw, Hx, Ho, ⟨%g, Hw⟩, HX, HS, HO⟩
  unfold prog
  sl_unfold [cc0__body]
  sl_exec (disch := first | sl_exact h1 | sl_exact h2 | sl_exact h3)
  sl_step
  isplitl [Hx]; · iexact Hx
  isplitl [Ho]
  · iapply (Entails.of_eq (pointsTo_congr (landed (aK L h1).view wV.view f (partA m d) g (chunk m d L) (chunk_A m d L h1))))
    iexact Ho
  sl_close

/-- one that fills the second; -/
theorem run_B (h1 : ¬ k0_cond1 L = 1#1) (h2 : k0_cond2 L = 1#1) (h3 : ¬ k0_cond3 L = 1#1) (O : CellTallies nD τ sig (HIx 1)) (W : Waits sig (HIx 1))
    (f : Buf (Elt F) (bLoc d)) :
    (iprop(Transfers.MayWaits (thr d L) (none : HIx 1) O ∗ pre m d L (bK L h2) (cellB d L) f O W) : sProp 𝕄)
      ⊢ wp frame (wpE (defs₀ (F := F)) 𝒱₀ (thr d L) none) Set.univ (prog (F := F) L) fun _ => post m d L (bK L h2) (cellB d L) (partB m d) O := by
  iintro ⟨#Hmw, Hx, Ho, ⟨%g, Hw⟩, HX, HS, HO⟩
  unfold prog
  sl_unfold [cc0__body]
  sl_exec (disch := first | sl_exact h1 | sl_exact h2 | sl_exact h3)
  sl_step
  isplitl [Hx]; · iexact Hx
  isplitl [Ho]
  · iapply (Entails.of_eq (pointsTo_congr (landed (bK L h2).view wV.view f (partB m d) g (chunk m d L) (chunk_B m d L h2))))
    iexact Ho
  sl_close

/-- one that fills the third. -/
theorem run_C (h1 : ¬ k0_cond1 L = 1#1) (h2 : ¬ k0_cond2 L = 1#1) (h3 : k0_cond3 L = 1#1) (O : CellTallies nD τ sig (HIx 1)) (W : Waits sig (HIx 1))
    (f : Buf (Elt F) (cLoc d)) :
    (iprop(Transfers.MayWaits (thr d L) (none : HIx 1) O ∗ pre m d L (cK L h3) (cellC d L) f O W) : sProp 𝕄)
      ⊢ wp frame (wpE (defs₀ (F := F)) 𝒱₀ (thr d L) none) Set.univ (prog (F := F) L) fun _ => post m d L (cK L h3) (cellC d L) (partC m d) O := by
  iintro ⟨#Hmw, Hx, Ho, ⟨%g, Hw⟩, HX, HS, HO⟩
  unfold prog
  sl_unfold [cc0__body]
  sl_exec (disch := first | sl_exact h1 | sl_exact h2 | sl_exact h3)
  sl_step
  isplitl [Hx]; · iexact Hx
  isplitl [Ho]
  · iapply (Entails.of_eq (pointsTo_congr (landed (cK L h3).view wV.view f (partC m d) g (chunk m d L) (chunk_C m d L h3))))
    iexact Ho
  sl_close

/-! ### A tile's own buffer and cells -/

/-- The tile's own cells at zero are the input's, any other that it names, and the rest; -/
theorem ownSems0_V (s : DmaSem sig) (hs : s ≠ cc0_scoped0.sem) :
    (ownSems0 (thr d L) : sProp 𝕄)
      = iprop(semVal (cellX d L) 0 ∗ semVal (thr d L, .dma s) 0
          ∗ bigSep (((ownCells (thr d L)).erase (cellX d L)).erase (thr d L, .dma s)) fun g => semVal g 0) := by
  have hm : ∀ s : DmaSem sig, ((thr d L, .dma s) : GSem nD τ sig) ∈ ownCells (thr d L) := fun s =>
    mem_ownCells.mpr ⟨rfl, (show ∀ s : DmaSem sig, (SemLoc.dma s : SemLoc sig).isScoped .scVector = true by decide) s⟩
  have hne : ((thr d L, .dma s) : GSem nD τ sig) ≠ cellX d L := fun e => hs (SemLoc.dma.inj (Prod.mk.inj e).2)
  unfold SparseCore.Cfg.ownSems0
  rw [SparseCore.bigSep_erase' (hm cc0_scoped0.sem), SparseCore.bigSep_erase' (Finset.mem_erase.mpr ⟨hne, hm s⟩)]

/-- and its own buffers are the one that the body copies through, at anything, and the rest. -/
theorem ownBufs_V :
    (ownBufs (thr d L) : sProp 𝕄)
      = iprop((∃ g, wV.view.loc (thr d L) ↦{fullShare} g)
          ∗ bigSep ((ownRefs (τ := τ) (thr d L).2).erase ((thr d L).2.devRef cc0_scratch0)) fun b => iprop(∃ f, ((d, b) : Loc nD τ sig) ↦{fullShare} f)) :=
  SparseCore.bigSep_erase' (SparseCore.Cfg.mem_ownRefs_of_owner (p := (thr d L).2) (b := (thr d L).2.devRef cc0_scratch0) rfl)

/-! ### The body in the launch's shape -/

/-- From a run of the body over one output's window, the tile's task: its share opened at that window, its own buffers and cells opened
    at what the run takes, and all of it put together again after. `A` is what the run leaves alone of the share. -/
theorem task_of_run (hF : (K (F := F)).Facts) (O : CellTallies nD τ sig (HIx 1)) (W : Waits sig (HIx 1)) (hO : ∀ g, O g none = 0)
    (o : Memref sig .scVector .hbm S4096 .f32) (s : DmaSem sig) (hs : s ≠ cc0_scoped0.sem) (f f' : Buf (Elt F) (o.view.loc (thr d L))) (A : sProp 𝕄)
    (hin : shareIn m d (wid L) ⊢ iprop(((xK L).view.loc (thr d L) ↦[(xK L).view.set]{fullShare} m (xLoc d)) ∗ (o.view.loc (thr d L) ↦[o.view.set]{fullShare} f) ∗ A))
    (hout : iprop(((xK L).view.loc (thr d L) ↦[(xK L).view.set]{fullShare} m (xLoc d)) ∗ (o.view.loc (thr d L) ↦[o.view.set]{fullShare} f') ∗ A) ⊢ shareOut m d (wid L))
    (hrun : (iprop(Transfers.MayWaits (thr d L) (none : HIx 1) O ∗ pre m d L o (thr d L, .dma s) f O W) : sProp 𝕄)
      ⊢ wp frame (wpE (defs₀ (F := F)) 𝒱₀ (thr d L) none) Set.univ (prog (F := F) L) fun _ => post m d L o (thr d L, .dma s) f' O) :
    iprop(levAts (K (F := F)).L (K (F := F)).lev ∗ emp ∗ shareIn m d (wid L)
        ∗ scopedBufs (thr d L) ∗ scopedSems0 (thr d L) ∗ owes (thr d L) O W)
      ⊢ wp frame (wpE (defs₀ (F := F)) 𝒱₀ (thr d L) none) Set.univ (prog (F := F) L)
          fun _ => iprop(shareOut m d (wid L) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d _ _, SparseCore.Cfg.scopedSems0_V (Val := Elt F) d _ _, ownSems0_V d L s hs, ownBufs_V]
  iintro ⟨#Hlv, -, Hshare, ⟨Hw, Hbufs⟩, ⟨HX, HS, Hsems⟩, HO⟩
  ihave Hmw := ((K (F := F)).mayWaits_none (thr := thr d L) hO) $$ Hlv
  ihave H := hin $$ Hshare
  icases H with ⟨Hx, Ho, HA⟩
  iapply (wp_wand_r Idealize.ShloMosaic.frame (wpE (defs₀ (F := F)) 𝒱₀ (thr d L) none) Set.univ)
  isplitl [Hx Ho Hw HX HS HO]
  · iapply hrun
    isplitr; · iexact Hmw
    isplitl [Hx]; · iexact Hx
    isplitl [Ho]; · iexact Ho
    isplitl [Hw]; · iexact Hw
    isplitl [HX]; · iexact HX
    isplitl [HS]; · iexact HS
    iexact HO
  iintro %_ ⟨Hx, Ho, Hw, HX, HS, %W', HO⟩
  isplitl [Hx Ho HA]
  · iapply hout
    isplitl [Hx]; · iexact Hx
    isplitl [Ho]; · iexact Ho
    iexact HA
  isplitl [Hw Hbufs]
  · isplitl [Hw]; · iexact Hw
    iexact Hbufs
  isplitl [HX HS Hsems]
  · isplitl [HX]; · iexact HX
    isplitl [HS]; · iexact HS
    iexact Hsems
  iexists W'; isplitr
  · ipureintro; intro p _
    rcases p.2 with _ | q
    · exact .inr (.inl rfl)
    · exact .inr (.inr (congrArg some (Subsingleton.elim q 0)))
  · iexact HO

/-- The task of any tile: it fills the one output that its number falls to, and holds no element of the others. -/
theorem task (hF : (K (F := F)).Facts) (O : CellTallies nD τ sig (HIx 1)) (W : Waits sig (HIx 1)) (hO : ∀ g, O g none = 0) :
    iprop(levAts (K (F := F)).L (K (F := F)).lev ∗ emp ∗ shareIn m d (wid L)
        ∗ scopedBufs (thr d L) ∗ scopedSems0 (thr d L) ∗ owes (thr d L) O W)
      ⊢ wp frame (wpE (defs₀ (F := F)) 𝒱₀ (thr d L) none) Set.univ (prog (F := F) L)
          fun _ => iprop(shareOut m d (wid L) ∗ scopedBufs (thr d L) ∗ scopedSems0 (thr d L)
            ∗ ∃ W', ⌜∀ p ∈ W', p ∈ W ∨ p.2 = none ∨ p.2 = some (0 : Fin 1)⌝ ∗ owes (thr d L) O W') := by
  have hw := wid_lt L
  rcases Nat.lt_or_ge (wid L) 8 with h8 | h8
  · have h1 := (cond_A L).mpr h8
    have h2 : ¬ k0_cond2 L = 1#1 := fun h => by have := (cond_B L).mp h; omega
    have h3 : ¬ k0_cond3 L = 1#1 := fun h => by have := (cond_C L).mp h; omega
    refine task_of_run m d L hF O W hO (aK L h1) cc0_scoped1.sem (by decide) (m (aLoc d)) (partA m d)
      iprop((bLoc d ↦[piece 65536 8 (wid L)]{fullShare} m (bLoc d)) ∗ cLoc d ↦[piece 32768 24 (wid L)]{fullShare} m (cLoc d)) ?_ ?_
      (run_A m d L h1 h2 h3 O W (m (aLoc d)))
    · rw [← pts_xK, ← pts_aK]
    · rw [← pts_xK, ← pts_aK, idle (ℓ := bLoc d) (piece_empty_lt h8) (m (bLoc d)) (partB m d),
        idle (ℓ := cLoc d) (piece_empty_lt (show wid L < 24 by omega)) (m (cLoc d)) (partC m d)]
  have h1 : ¬ k0_cond1 L = 1#1 := fun h => by have := (cond_A L).mp h; omega
  have ha := idle (F := F) (ℓ := aLoc d) (piece_empty_ge (n := 8) (o := 0) (show 0 + 8 ≤ wid L by omega)) (m (aLoc d)) (partA m d)
  rcases Nat.lt_or_ge (wid L) 24 with h24 | h24
  · have h2 := (cond_B L).mpr ⟨h8, h24⟩
    have h3 : ¬ k0_cond3 L = 1#1 := fun h => by have := (cond_C L).mp h; omega
    refine task_of_run m d L hF O W hO (bK L h2) cc0_scoped2.sem (by decide) (m (bLoc d)) (partB m d)
      iprop((aLoc d ↦[piece 32768 0 (wid L)]{fullShare} m (aLoc d)) ∗ cLoc d ↦[piece 32768 24 (wid L)]{fullShare} m (cLoc d)) ?_ ?_
      (run_B m d L h1 h2 h3 O W (m (bLoc d)))
    · rw [← pts_xK, ← pts_bK]
      iintro ⟨Hx, Ha, Hb, Hc⟩
      isplitl [Hx]; · iexact Hx
      isplitl [Hb]; · iexact Hb
      isplitl [Ha] <;> iassumption
    · rw [← pts_xK, ← pts_bK, ha, idle (ℓ := cLoc d) (piece_empty_lt h24) (m (cLoc d)) (partC m d)]
      iintro ⟨Hx, Hb, Ha, Hc⟩
      isplitl [Hx]; · iexact Hx
      isplitl [Ha]; · iexact Ha
      isplitl [Hb] <;> iassumption
  · have h2 : ¬ k0_cond2 L = 1#1 := fun h => by have := (cond_B L).mp h; omega
    have h3 := (cond_C L).mpr h24
    refine task_of_run m d L hF O W hO (cK L h3) cc0_scoped3.sem (by decide) (m (cLoc d)) (partC m d)
      iprop((aLoc d ↦[piece 32768 0 (wid L)]{fullShare} m (aLoc d)) ∗ bLoc d ↦[piece 65536 8 (wid L)]{fullShare} m (bLoc d)) ?_ ?_
      (run_C m d L h1 h2 h3 O W (m (cLoc d)))
    · rw [← pts_xK, ← pts_cK]
      iintro ⟨Hx, Ha, Hb, Hc⟩
      isplitl [Hx]; · iexact Hx
      isplitl [Hc]; · iexact Hc
      isplitl [Ha] <;> iassumption
    · rw [← pts_xK, ← pts_cK, ha, idle (ℓ := bLoc d) (piece_empty_ge (n := 16) (o := 8) (show 8 + 16 ≤ wid L by omega)) (m (bLoc d)) (partB m d)]
      iintro ⟨Hx, Hc, Ha, Hb⟩
      isplitl [Hx]; · iexact Hx
      isplitl [Ha]; · iexact Ha
      isplitl [Hb] <;> iassumption

end Body

/-! ## The call's obligations -/

/-- The grid point of a tile. -/
def point (c : Fin (grid0.bound 0)) (i : Fin (grid0.bound 1)) : grid0.Coords :=
  fun | 0 => c | 1 => i | ⟨_ + 2, h⟩ => absurd h (Nat.not_lt.2 (Nat.le_add_left _ _))

theorem defs₀_vector (c : Fin τ.nSC) (i : Fin τ.nSub) :
    defs₀ (F := F) (.scVector c i) 0 () = SparseCore.onTile hcore0 hsub0 (fun c i => prog (F := F) (point c i)) ⟨⟩ c i := rfl

/-- Every tile meets the call's obligation. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hb : ((K (F := F)).core 0 c).val < grid0.bound 0 ∧ ((K (F := F)).sub 0 i).val < grid0.bound 1 := ⟨c.isLt, i.isLt⟩
  rw [defs₀_vector]; simp only [SparseCore.onTile, hb, and_self, ↓reduceDIte]
  exact task m d (point ⟨_, hb.1⟩ ⟨_, hb.2⟩) facts O W hO

/-- A SparseCore holds its tiles' shares already as they take them, and hands them back as they bring them. -/
theorem vecSplit : (K (F := F)).VecSplit' (P m) 0 := by
  intro d c
  have hst : (P m).st 0 d c = bigSep Finset.univ fun i : Fin ((K (F := F)).nSub 0) => (P m).go 0 d c i := rfl
  have hdn : (P m).dn 0 d c = bigSep Finset.univ fun i : Fin ((K (F := F)).nSub 0) => (P m).td 0 d c i := rfl
  rw [hst, hdn]
  iintro H; imodintro
  isplitl [H]; · iexact H
  iintro H; iexact H

/-! ## The launch's element: the handshakes' rounds and nothing else -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore: the call, then the three reshapes -/

abbrev x' : DevRef τ sig := Proc.devRef .tc (main_arg0 : Ref sig .tc)
abbrev a' : DevRef τ sig := Proc.devRef .tc (main_v0_0 : Ref sig .tc)
abbrev b' : DevRef τ sig := Proc.devRef .tc (main_v0_1 : Ref sig .tc)
abbrev c' : DevRef τ sig := Proc.devRef .tc (main_v0_2 : Ref sig .tc)
abbrev r1' : DevRef τ sig := Proc.devRef .tc (main_v1 : Ref sig .tc)
abbrev r2' : DevRef τ sig := Proc.devRef .tc (main_v2 : Ref sig .tc)
abbrev r3' : DevRef τ sig := Proc.devRef .tc (main_v3 : Ref sig .tc)
abbrev op1 : HloOp τ sig (Elt F) := StableHlo.reshape main_v0_0 main_v1 (rfl : (.f32 : EltTy) = .f32) shapeCasts_S32768_S32x1024
abbrev op2 : HloOp τ sig (Elt F) := StableHlo.reshape main_v0_1 main_v2 (rfl : (.f32 : EltTy) = .f32) shapeCasts_S65536_S128x512
abbrev op3 : HloOp τ sig (Elt F) := StableHlo.reshape main_v0_2 main_v3 (rfl : (.f32 : EltTy) = .f32) shapeCasts_S32768_S1x32768

/-- The three results' places, and what they end at: the parts, reshaped. -/
abbrev r1Loc (d : Dev nD) : Loc nD τ sig := (SparseCore.T d).loc main_v1
abbrev r2Loc (d : Dev nD) : Loc nD τ sig := (SparseCore.T d).loc main_v2
abbrev r3Loc (d : Dev nD) : Loc nD τ sig := (SparseCore.T d).loc main_v3
abbrev res1 (d : Dev nD) : Buf (Elt F) (r1Loc d) := (shapeCast S32x1024 (partA m d : FVec F S32768 .f32) shapeCasts_S32768_S32x1024 : FVec F S32x1024 .f32)
abbrev res2 (d : Dev nD) : Buf (Elt F) (r2Loc d) := (shapeCast S128x512 (partB m d : FVec F S65536 .f32) shapeCasts_S65536_S128x512 : FVec F S128x512 .f32)
abbrev res3 (d : Dev nD) : Buf (Elt F) (r3Loc d) := (shapeCast S1x32768 (partC m d : FVec F S32768 .f32) shapeCasts_S32768_S1x32768 : FVec F S1x32768 .f32)

/-- The TensorCore's arrays, none of them scoped. -/
abbrev S7 : Finset (DevRef τ sig) := {x', a', b', c', r1', r2', r3'}

omit [FloatOps F] in
theorem held_S7 (d : Dev nD) (W : Valuation τ sig (Elt F)) :
    (held (T d) S7 W : sProp 𝕄) = iprop((xLoc d ↦{fullShare} W x') ∗ (aLoc d ↦{fullShare} W a') ∗ (bLoc d ↦{fullShare} W b') ∗ (cLoc d ↦{fullShare} W c')
      ∗ (r1Loc d ↦{fullShare} W r1') ∗ (r2Loc d ↦{fullShare} W r2') ∗ r3Loc d ↦{fullShare} W r3') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (aLoc d ↦{fullShare} W main_v0_0) ∗ (bLoc d ↦{fullShare} W main_v0_1)
      ∗ (cLoc d ↦{fullShare} W main_v0_2) ∗ (r1Loc d ↦{fullShare} W main_v1) ∗ (r2Loc d ↦{fullShare} W main_v2) ∗ r3Loc d ↦{fullShare} W main_v3) := by
  unfold unscopedBufs
  rw [show (Finset.univ.filter fun b : Ref sig .tc => ¬ b.isScoped) = {main_arg0, main_v0_0, main_v0_1, main_v0_2, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The memory at the launch; after the call, the three flat arrays at their parts; after each reshape. -/
def V0 (d : Dev nD) : Valuation τ sig (Elt F) := fun b => m (d, b)
def V1 (d : Dev nD) : Valuation τ sig (Elt F) :=
  Function.update (Function.update (Function.update (V0 m d) a' (partA m d)) b' (partB m d)) c' (partC m d)
abbrev V2 (d : Dev nD) : Valuation τ sig (Elt F) := (op1 (F := F)).result (V1 m d)
abbrev V3 (d : Dev nD) : Valuation τ sig (Elt F) := (op2 (F := F)).result (V2 m d)
abbrev V4 (d : Dev nD) : Valuation τ sig (Elt F) := (op3 (F := F)).result (V3 m d)

theorem unscoped_held (d : Dev nD) : (unscopedBufs d (fun b => m ((SparseCore.T d).loc b)) : sProp 𝕄) = held (T d) S7 (V0 m d) := by
  rw [unscopedBufs_eq, held_S7]; rfl

/-- What the call does not write it leaves; -/
theorem V1_of_ne (d : Dev nD) {r : DevRef τ sig} (ha : r ≠ a') (hb : r ≠ b') (hc : r ≠ c') : V1 m d r = V0 m d r :=
  (Function.update_of_ne hc _ _).trans ((Function.update_of_ne hb _ _).trans (Function.update_of_ne ha _ _))
theorem V1_a (d : Dev nD) : V1 m d a' = partA m d :=
  (Function.update_of_ne (show a' ≠ c' by decide) _ _).trans ((Function.update_of_ne (show a' ≠ b' by decide) _ _).trans (Function.update_self _ _ _))
theorem V1_b (d : Dev nD) : V1 m d b' = partB m d :=
  (Function.update_of_ne (show b' ≠ c' by decide) _ _).trans (Function.update_self _ _ _)
theorem V1_c (d : Dev nD) : V1 m d c' = partC m d := Function.update_self _ _ _

/-- a reshape leaves all but its own result. -/
theorem V2_of_ne (d : Dev nD) {r : DevRef τ sig} (h : r ∉ ({r1'} : Finset (DevRef τ sig))) : V2 m d r = V1 m d r := (op1 (F := F)).result_of_not_mem _ h
theorem V3_of_ne (d : Dev nD) {r : DevRef τ sig} (h : r ∉ ({r2'} : Finset (DevRef τ sig))) : V3 m d r = V2 m d r := (op2 (F := F)).result_of_not_mem _ h
theorem V4_of_ne (d : Dev nD) {r : DevRef τ sig} (h : r ∉ ({r3'} : Finset (DevRef τ sig))) : V4 m d r = V3 m d r := (op3 (F := F)).result_of_not_mem _ h

theorem V4_x (d : Dev nD) : V4 m d x' = m (xLoc d) := by
  rw [V4_of_ne m d (by decide), V3_of_ne m d (by decide), V2_of_ne m d (by decide), V1_of_ne m d (by decide) (by decide) (by decide)]; rfl
theorem V4_r1 (d : Dev nD) : V4 m d r1' = res1 m d := by
  rw [V4_of_ne m d (by decide), V3_of_ne m d (by decide)]
  refine (StableHlo.reshape_result main_v0_0 main_v1 _ _ _ _ _).trans ?_
  rw [V1_a]; rfl
theorem V4_r2 (d : Dev nD) : V4 m d r2' = res2 m d := by
  rw [V4_of_ne m d (by decide)]
  refine (StableHlo.reshape_result main_v0_1 main_v2 _ _ _ _ _).trans ?_
  rw [V2_of_ne m d (by decide), V1_b]; rfl
theorem V4_r3 (d : Dev nD) : V4 m d r3' = res3 m d := by
  refine (StableHlo.reshape_result main_v0_2 main_v3 _ _ _ _ _).trans ?_
  rw [V3_of_ne m d (by decide), V2_of_ne m d (by decide), V1_c]; rfl

/-- The arrays after the call, and after the reshapes. -/
theorem held_V1 (d : Dev nD) :
    (held (T d) S7 (V1 m d) : sProp 𝕄) = iprop(xPts m d ∗ aPts d (partA m d) ∗ bPts d (partB m d) ∗ cPts d (partC m d)
      ∗ (r1Loc d ↦{fullShare} V0 m d r1') ∗ (r2Loc d ↦{fullShare} V0 m d r2') ∗ r3Loc d ↦{fullShare} V0 m d r3') := by
  rw [held_S7, V1_a, V1_b, V1_c, V1_of_ne m d (r := x') (by decide) (by decide) (by decide), V1_of_ne m d (r := r1') (by decide) (by decide) (by decide),
    V1_of_ne m d (r := r2') (by decide) (by decide) (by decide), V1_of_ne m d (r := r3') (by decide) (by decide) (by decide)]
  rfl
theorem held_V4 (d : Dev nD) :
    (held (T d) S7 (V4 m d) : sProp 𝕄) = iprop(xPts m d ∗ (aLoc d ↦{fullShare} V4 m d a') ∗ (bLoc d ↦{fullShare} V4 m d b') ∗ (cLoc d ↦{fullShare} V4 m d c')
      ∗ (r1Loc d ↦{fullShare} res1 m d) ∗ (r2Loc d ↦{fullShare} res2 m d) ∗ r3Loc d ↦{fullShare} res3 m d) := by
  rw [held_S7, V4_x, V4_r1, V4_r2, V4_r3]

/-- What the call takes for its two SparseCores, and what it hands back: the four arrays whole. -/
theorem st0_eq (d : Dev nD) :
    (bigSep Finset.univ fun c : Fin ((K (F := F)).nCore 0) => (P m).st 0 d c) = iprop(xPts m d ∗ aPts d (m (aLoc d)) ∗ bPts d (m (bLoc d)) ∗ cPts d (m (cLoc d))) :=
  (tiles_eq m d _ _ _).symm
theorem dn0_eq (d : Dev nD) :
    (bigSep Finset.univ fun c : Fin ((K (F := F)).nCore 0) => (P m).dn 0 d c) = iprop(xPts m d ∗ aPts d (partA m d) ∗ bPts d (partB m d) ∗ cPts d (partC m d)) :=
  (tiles_eq m d _ _ _).symm

theorem hop1 : (op1 (F := F)).bufs ⊆ S7 := show ({a', r1'} : Finset (DevRef τ sig)) ⊆ S7 by decide
theorem hop2 : (op2 (F := F)).bufs ⊆ S7 := show ({b', r2'} : Finset (DevRef τ sig)) ⊆ S7 by decide
theorem hop3 : (op3 (F := F)).bufs ⊆ S7 := show ({c', r3'} : Finset (DevRef τ sig)) ⊆ S7 by decide

/-- What @main leaves the claims: the input as it was, the three results at their values. -/
abbrev FIN (d : Dev nD) : sProp 𝕄 :=
  iprop(xPts m d ∗ (r1Loc d ↦{fullShare} res1 m d) ∗ (r2Loc d ↦{fullShare} res2 m d) ∗ r3Loc d ↦{fullShare} res3 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  ihave Hh := (Entails.of_eq (held_S7 (F := F) d _)) $$ Hheld
  icases Hh with ⟨Hx, HA, HB, HC, Hr1, Hr2, Hr3⟩
  iapply ((K (F := F)).wp_run (D (F := F)) 𝒱 (EH := EH) (P := P m) κ d 0) $$ [Hst Hx HA HB HC Hb Hr1 Hr2 Hr3 Hts]
  isplitr; · iexact Hctx
  isplitl [Hst]; · iexact Hst
  isplitl [Hx HA HB HC]
  · rw [st0_eq]
    isplitl [Hx]; · iexact Hx
    isplitl [HA]; · iexact HA
    isplitl [HB]; · iexact HB
    iexact HC
  iintro ⟨Hst, Hdn⟩
  ihave Hdn' := (Entails.of_eq (dn0_eq m d)) $$ Hdn
  icases Hdn' with ⟨Hx, HA, HB, HC⟩
  iapply (wp_hlo_within 𝒱 (SparseCore.T d) none Set.univ (op := op1) (S := S7) hop1 (V := V1 m d)) $$ [Hb Hx HA HB HC Hr1 Hr2 Hr3]
  · isplitl [Hb]; · iexact Hb
    rw [held_V1]
    isplitl [Hx]; · iexact Hx
    isplitl [HA]; · iexact HA
    isplitl [HB]; · iexact HB
    isplitl [HC]; · iexact HC
    isplitl [Hr1]; · iexact Hr1
    isplitl [Hr2]; · iexact Hr2
    iexact Hr3
  iintro ⟨Hb, Hheld⟩
  rw [wp_ret]; imodintro
  iapply (wp_hlo_within 𝒱 (SparseCore.T d) none Set.univ (op := op2) (S := S7) hop2 (V := V2 m d)) $$ [Hb Hheld]
  · isplitl [Hb] <;> iassumption
  iintro ⟨Hb, Hheld⟩
  rw [wp_ret]; imodintro
  iapply (wp_hlo_within 𝒱 (SparseCore.T d) none Set.univ (op := op3) (S := S7) hop3 (V := V3 m d)) $$ [Hb Hheld]
  · isplitl [Hb] <;> iassumption
  iintro ⟨Hb, Hheld⟩
  ihave Hh := (Entails.of_eq (held_V4 (F := F) m d)) $$ Hheld
  icases Hh with ⟨Hx, -, -, -, Hr1, Hr2, Hr3⟩
  rw [wp_ret]; imodintro; imodintro
  isplitl [Hst]; · iexact Hst
  isplitr [Hb Hts]
  · isplitl [Hx]; · iexact Hx
    isplitl [Hr1]; · iexact Hr1
    isplitl [Hr2]; · iexact Hr2
    iexact Hr3
  isplitl [Hb] <;> iassumption

/-- What the claims read of device `d`'s final memory. -/
def fq (d : Dev nD) (s' : Phys nD τ sig (Elt F)) : Prop :=
  s'.mem.mem (r1Loc d) = res1 m d ∧ s'.mem.mem (r2Loc d) = res2 m d ∧ s'.mem.mem (r3Loc d) = res3 m d ∧ s'.mem.mem (xLoc d) = m (xLoc d)

/-- An array held whole is what the memory holds of it. -/
theorem read_whole (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨Hx, Hr1, Hr2, Hr3⟩, HSI⟩
  ihave H := (read_whole s' (xLoc d) (m (xLoc d))) $$ [HSI Hx]
  · isplitl [HSI] <;> iassumption
  icases H with ⟨%hx, HSI⟩
  ihave H := (read_whole s' (r1Loc d) (res1 m d)) $$ [HSI Hr1]
  · isplitl [HSI] <;> iassumption
  icases H with ⟨%h1, HSI⟩
  ihave H := (read_whole s' (r2Loc d) (res2 m d)) $$ [HSI Hr2]
  · isplitl [HSI] <;> iassumption
  icases H with ⟨%h2, HSI⟩
  ihave H := (read_whole s' (r3Loc d) (res3 m d)) $$ [HSI Hr3]
  · isplitl [HSI] <;> iassumption
  icases H with ⟨%h3, -⟩
  ipureintro; exact ⟨h1, h2, h3, hx⟩

/-! ## The program's run -/

def QC : PUnit × MemSt nD τ sig (Elt F) → Prop := fun r =>
  (∀ c : Dev nD, r.2.mem (r1Loc c) = res1 m c ∧ r.2.mem (r2Loc c) = res2 m c ∧ r.2.mem (r3Loc c) = res3 m c ∧ r.2.mem (xLoc c) = m (xLoc c))
    ∧ r.2.sem = fun _ => 0

/-- The program runs; each result ends at its part of the input, reshaped, the input as it was and every counter at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.SplitIdeal

end
-- ==== Proof.Grid.lean ====
/-
  A row of scalars set into a grid, update `j` at row `j / C` and column `j % C`, is the row reshaped to the grid.

  The reference writes each part of its input into a grid of `R` rows and `C` columns, where `R * C` is the part's length. Update `j`'s two
  index words are computed from the place `j`: the row is the integer quotient by `C`, the column is `j` less `C` times the row, and each word is
  then wrapped as an index is (a negative word has the extent added). No place is negative and every quotient is below `R`, so the wrap leaves both
  words alone; each grid element is then written exactly once, by the update at its own row-major place. The three parts differ in their
  extents alone, so everything here is stated for any extents.
-/
module

public import Idealize.ShloMosaic.Lib.Routing.OpsSet
public import Idealize.ShloMosaic.Lib.Routing.Words
public import Idealize.ShloMosaic.Lib.WordCmp
public import Idealize.ShloMosaic.Lib.Pipeline.Value

@[expose] public section

namespace Cert.Proof.Grid

open Idealize.ShloMosaic Idealize.ShloMosaic.Routing Idealize.ShloMosaic.ValueIdx

variable {N R C : ℕ}

/-! ## Where an update lands -/

/-- A scatter of `N` scalars into an `R × C` grid by two index words each. -/
abbrev gridDims (wf : ScatterDims.WF (shape2 R C) (shape2 N 2) (shape1 N) [] [0, 1] [0, 1] 1) : ScatterDims (shape2 R C) (shape2 N 2) (shape1 N) :=
  ⟨[], [0, 1], [0, 1], 1, wf⟩

/-- Its windows are single elements; -/
theorem grid_window (wf : ScatterDims.WF (shape2 R C) (shape2 N 2) (shape1 N) [] [0, 1] [0, 1] 1) (k : (shape1 N).Idx) (q : Fin 2) :
    (gridDims wf).window k q = 0 :=
  dif_neg fun h => by
    have h' := (List.mem_filter.1 h).2
    revert h'
    fin_cases q <;> simp

/-- the start of update `j` on axis `q` is its index word `q`; -/
theorem grid_start (wf : ScatterDims.WF (shape2 R C) (shape2 N 2) (shape1 N) [] [0, 1] [0, 1] 1) (idx : IVec (shape2 N 2) 32) (j : Fin N) (q : Fin 2) :
    (gridDims wf).start (ix1 j) idx q = (idx (ix2 j q)).toInt := by
  have hq : q ∈ (gridDims wf).scatterDimsToOperandDims := by fin_cases q <;> simp
  refine (dif_pos hq).trans (congrArg (fun i => (idx i).toInt) (funext fun b => Fin.ext ?_))
  fin_cases q <;> fin_cases b <;> rfl

/-- so update `j` lands at `(r, c)` exactly when its words are `r` and `c`. -/
theorem grid_lands (wf : ScatterDims.WF (shape2 R C) (shape2 N 2) (shape1 N) [] [0, 1] [0, 1] 1) (idx : IVec (shape2 N 2) 32) (j : Fin N) (r : Fin R) (c : Fin C) :
    (gridDims wf).resultIdx? (ix1 j) idx = some (ix2 r c) ↔ (idx (ix2 j 0)).toInt = r.val ∧ (idx (ix2 j 1)).toInt = c.val := by
  rw [resultIdx?_ix2, grid_window, grid_window, grid_start, grid_start]
  simp

/-- Set at the quotient and the remainder of its place, every element of a row lands at its own row-major place of the grid. -/
theorem scatter_places {α : Type} (hN : N = R * C) (wf : ScatterDims.WF (shape2 R C) (shape2 N 2) (shape1 N) [] [0, 1] [0, 1] 1)
    (x : (shape2 R C).Idx → α) (idx : IVec (shape2 N 2) 32) (u : (shape1 N).Idx → α) (hs : (shape1 N).ShapeCasts (shape2 R C))
    (h0 : ∀ j : Fin N, (idx (ix2 j 0)).toInt = ((j.val / C : ℕ) : ℤ)) (h1 : ∀ j : Fin N, (idx (ix2 j 1)).toInt = ((j.val % C : ℕ) : ℤ)) :
    Host.scatter (gridDims wf) (fun _ b => b) x idx u = shapeCast (shape2 R C) u hs := by
  funext i
  obtain ⟨r, c, rfl⟩ : ∃ r c, i = ix2 r c := ⟨i 0, i 1, eq_ix2 i⟩
  have hC : 0 < C := Nat.lt_of_le_of_lt (Nat.zero_le _) c.isLt
  have hlt : r.val * C + c.val < N := by
    have h : (r.val + 1) * C ≤ R * C := Nat.mul_le_mul_right C r.isLt
    rw [Nat.add_mul, Nat.one_mul] at h
    have := c.isLt
    omega
  have hu : shapeCast (shape2 R C) u hs (ix2 r c) = u (ix1 ⟨r.val * C + c.val, hlt⟩) :=
    shapeCast_apply u hs _ _ (by rw [Shape.rowMajor_val_one, Shape.rowMajor_val_two]; rfl)
  rw [hu]
  refine scatter_set_hit (gridDims wf) x idx u (ix2 r c) _ (fun k hk => ?_) (ix1 ⟨r.val * C + c.val, hlt⟩) ?_
  · obtain ⟨j, rfl⟩ : ∃ j, k = ix1 j := ⟨k 0, eq_ix1 k⟩
    have hl := (grid_lands wf idx j r c).1 hk
    rw [h0, h1] at hl
    have hd : j.val / C = r.val := by exact_mod_cast hl.1
    have hm : j.val % C = c.val := by exact_mod_cast hl.2
    have hj : j = ⟨r.val * C + c.val, hlt⟩ := Fin.ext (by
      show j.val = r.val * C + c.val
      rw [← hd, ← hm]; exact (Nat.div_add_mod' j.val C).symm)
    rw [hj]
  · refine (grid_lands wf idx _ r c).2 ⟨(h0 _).trans ?_, (h1 _).trans ?_⟩
    · show (((r.val * C + c.val) / C : ℕ) : ℤ) = r.val
      rw [Nat.add_comm, Nat.add_mul_div_right _ _ hC, Nat.div_eq_of_lt c.isLt, Nat.zero_add]
    · show (((r.val * C + c.val) % C : ℕ) : ℤ) = c.val
      rw [Nat.add_comm, Nat.add_mul_mod_self_right, Nat.mod_eq_of_lt c.isLt]

/-! ## The index words -/

section Words

variable (hb : shape0.BroadcastsInDim (shape1 N) ![]) (hc : (shape1 N).BroadcastsInDim (shape2 N 1) ![0])

/-- One word at every place. -/
abbrev every (w : BitVec 32) : IVec (shape1 N) 32 := broadcastInDim (shape1 N) ![] hb (constantI shape0 32 w)
/-- The row of each place, and its column. -/
abbrev rows (k : BitVec 32) : IVec (shape1 N) 32 := Host.divsi (iotaInDim (shape1 N) 32 0) (every hb k)
abbrev cols (k : BitVec 32) : IVec (shape1 N) 32 := subi (iotaInDim (shape1 N) 32 0) (muli (every hb k) (rows hb k))
/-- The wrap of an index. -/
abbrev wrap (x : IVec (shape1 N) 32) (e : BitVec 32) : IVec (shape1 N) 32 := select (cmpi .slt x (every hb 0#32)) (addi x (every hb e)) x
/-- A column of words beside another. -/
abbrev beside (hcat : Shape.Concatenates [shape2 N 1, shape2 N 1] (shape2 N 2) 1) (x y : IVec (shape1 N) 32) : IVec (shape2 N 2) 32 :=
  concatenate (shape2 N 2) 1 [⟨shape2 N 1, broadcastInDim (shape2 N 1) ![0] hc x⟩, ⟨shape2 N 1, broadcastInDim (shape2 N 1) ![0] hc y⟩] hcat

theorem rows_at (hN : N < 2 ^ 31) (hC : 0 < C) (hC' : C < 2 ^ 31) (j : Fin N) : rows hb (BitVec.ofNat 32 C) (ix1 j) = BitVec.ofNat 32 (j.val / C) :=
  divsi_word .host (Nat.lt_trans j.isLt hN) hC hC'

theorem cols_at (hN : N < 2 ^ 31) (hC : 0 < C) (hC' : C < 2 ^ 31) (j : Fin N) : cols hb (BitVec.ofNat 32 C) (ix1 j) = BitVec.ofNat 32 (j.val % C) := by
  have hle : C * (j.val / C) ≤ j.val := Nat.mul_div_le _ _
  have hmod : j.val % C = j.val - C * (j.val / C) := Nat.mod_eq_sub_mul_div
  show BitVec.ofNat 32 j.val - BitVec.ofNat 32 C * rows hb (BitVec.ofNat 32 C) (ix1 j) = _
  rw [rows_at hb hN hC hC', BitVec.ofNat_mul_ofNat]
  have hj := j.isLt
  apply BitVec.eq_of_toNat_eq
  rw [BitVec.toNat_sub, BitVec.toNat_ofNat, BitVec.toNat_ofNat, BitVec.toNat_ofNat]
  omega

/-- The wrap leaves a word that is not negative as it is. -/
theorem wrap_at (x : IVec (shape1 N) 32) (e : BitVec 32) (j : Fin N) (h : (x (ix1 j)).toNat < 2 ^ 31) : wrap hb x e (ix1 j) = x (ix1 j) :=
  wrap_of_lt _ _ h

/-- The pair of columns, read at either. -/
theorem beside_at (hcat : Shape.Concatenates [shape2 N 1, shape2 N 1] (shape2 N 2) 1) (x y : IVec (shape1 N) 32) (j : Fin N) :
    beside hc hcat x y (ix2 j 0) = x (ix1 j) ∧ beside hc hcat x y (ix2 j 1) = y (ix1 j) := by
  have hrow : ∀ z : IVec (shape1 N) 32, broadcastInDim (shape2 N 1) ![0] hc z (ix2 j (0 : Fin 1)) = z (ix1 j) := fun z =>
    broadcastInDim_apply _ hc z _ _ fun a => by
      fin_cases a
      show j.val = if N = 1 then 0 else j.val
      split
      · have := j.isLt; omega
      · rfl
  constructor
  · exact (concatenate_pair_apply_left _ _ _ hcat _ rfl (ix2 j (0 : Fin 1)) (fun b => by fin_cases b <;> rfl)).trans (hrow x)
  · refine (concatenate_pair_apply_right _ _ _ hcat _ rfl rfl (ix2 j (0 : Fin 1)) (fun b hb => ?_) rfl).trans (hrow y)
    fin_cases b
    · rfl
    · exact absurd rfl hb

end Words

/-! ## The reference's grid -/

/-- A part set into its grid at the rows and columns of its places is the part reshaped. -/
theorem grid_eq {α : Type} (hN : N = R * C) (hlt : N < 2 ^ 31) (hC : 0 < C) (hC' : C < 2 ^ 31)
    (wf : ScatterDims.WF (shape2 R C) (shape2 N 2) (shape1 N) [] [0, 1] [0, 1] 1)
    (hb : shape0.BroadcastsInDim (shape1 N) ![]) (hc : (shape1 N).BroadcastsInDim (shape2 N 1) ![0])
    (hcat : Shape.Concatenates [shape2 N 1, shape2 N 1] (shape2 N 2) 1) (hs : (shape1 N).ShapeCasts (shape2 R C))
    (x : (shape2 R C).Idx → α) (u : (shape1 N).Idx → α) (e : BitVec 32) :
    Host.scatter (gridDims wf) (fun _ b => b) x
        (beside hc hcat (wrap hb (rows hb (BitVec.ofNat 32 C)) e) (wrap hb (cols hb (BitVec.ofNat 32 C)) (BitVec.ofNat 32 C))) u
      = shapeCast (shape2 R C) u hs := by
  have hsmall : ∀ n : ℕ, n < 2 ^ 31 → (BitVec.ofNat 32 n).toNat < 2 ^ 31 := fun n hn => by
    rw [BitVec.toNat_ofNat, Nat.mod_eq_of_lt (by omega)]; exact hn
  have hq : ∀ j : Fin N, j.val / C < 2 ^ 31 := fun j => Nat.lt_of_le_of_lt (Nat.div_le_self _ _) (by have := j.isLt; omega)
  have hr : ∀ j : Fin N, j.val % C < 2 ^ 31 := fun j => Nat.lt_of_le_of_lt (Nat.mod_le _ _) (by have := j.isLt; omega)
  refine scatter_places hN wf x _ u hs (fun j => ?_) (fun j => ?_)
  · rw [(beside_at hc hcat _ _ j).1, wrap_at hb _ _ j (by rw [rows_at hb hlt hC hC']; exact hsmall _ (hq j)), rows_at hb hlt hC hC',
      WordCmp.toInt_ofNat_of_lt (hq j)]
  · rw [(beside_at hc hcat _ _ j).2, wrap_at hb _ _ j (by rw [cols_at hb hlt hC hC']; exact hsmall _ (hr j)), cols_at hb hlt hC hC',
      WordCmp.toInt_ofNat_of_lt (hr j)]

end Cert.Proof.Grid
-- ==== Proof.lean ====
/-
  The five claims. Each of the kernel's 32 tiles copies 4096 elements of the input through its own memory into one of three flat arrays,
  which the TensorCore then reshapes: each result is a consecutive part of the input, reshaped (Proof/Split.lean; Proof/SplitIdeal.lean is
  the same text over the idealized program). The
  reference sets the elements of each part into a grid one by one, at the quotient and the remainder of their places, and Proof/Grid.lean shows
  that this is the part reshaped.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Split
public import proofs.«01_k».proof.Proof.SplitIdeal
public import proofs.«01_k».proof.Proof.Grid
public import Idealize.ShloMosaic.Adequacy
public import Idealize.ShloMosaic.Init

@[expose] public section

noncomputable section

namespace Cert.Proof

open Idealize.ShloMosaic Idealize.SL.Sem

/-! ## The frames: the runs with the values dropped -/

theorem frame_kernel : Cert.quiescent_Kernel := fun m ρ _ =>
  (θ_run Cert.Kernel.defs _ _).mono (fun _ h => ⟨fun c => (h.1 c).2.2.2, h.2⟩) (Split.run_main (F := Bits) m ρ)

theorem frame_ideal : Cert.quiescent_KernelIdeal := fun m ρ _ =>
  (θ_run Cert.KernelIdeal.defs _ _).mono (fun _ h => ⟨fun c => (h.1 c).2.2.2, h.2⟩) (SplitIdeal.run_main (F := Ideal) m ρ)

/-- The reference declares no semaphore, so every counter is zero. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-! ## The values: both programs end with each part of the input, reshaped -/

theorem algebraic : Cert.algebraic_KernelIdeal_ReferenceIdeal := by
  intro m ρ m' ρ' _ hagree
  refine ⟨fun c => SplitIdeal.res1 m c, fun c => SplitIdeal.res2 m c, fun c => SplitIdeal.res3 m c,
    (θ_run Cert.KernelIdeal.defs _ _).mono (fun _ h => h.1) (SplitIdeal.run_main (F := Ideal) m ρ), ?_⟩
  refine (θ_run Cert.ReferenceIdeal.defs _ _).mono (fun r h c => ⟨(h c).1.trans ?_, (h c).2.1.trans ?_, (h c).2.2.1.trans ?_, (h c).2.2.2⟩)
    (Cert.ReferenceIdeal.Value.run (F := Ideal) m' ρ')
  · rw [hagree c]
    exact Grid.grid_eq (N := 32768) (R := 32) (C := 1024) (by decide) (by decide) (by decide) (by decide) _ _ _ _ _ _ _ _
  · rw [hagree c]
    exact Grid.grid_eq (N := 65536) (R := 128) (C := 512) (by decide) (by decide) (by decide) (by decide) _ _ _ _ _ _ _ _
  · rw [hagree c]
    exact Grid.grid_eq (N := 32768) (R := 1) (C := 32768) (by decide) (by decide) (by decide) (by decide) _ _ _ _ _ _ _ _

theorem claim : Cert.Claim :=
  ⟨Cert.Kernel.Gen.facts, Cert.KernelIdeal.Gen.facts, Cert.ReferenceIdeal.Gen.facts,
    frame_kernel, frame_ideal, frame_reference, trivial, algebraic⟩

end Cert.Proof

end
